-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x2048 : Shape := ⟨2, ![8192, 2048]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩
abbrev S8 : Shape := ⟨1, ![8]⟩
abbrev S_ : Shape := ⟨0, ![]⟩

class Facts : Prop where
  bcast_S_S8192x2048 : S_.BroadcastsInDim S8192x2048 (![] : Fin 0 → Fin S8192x2048.rank)
  bcast_S_S2048x2048 : S_.BroadcastsInDim S2048x2048 (![] : Fin 0 → Fin S2048x2048.rank)
  bcast_S_S2048 : S_.BroadcastsInDim S2048 (![] : Fin 0 → Fin S2048.rank)
  bcast_S_S2048x512 : S_.BroadcastsInDim S2048x512 (![] : Fin 0 → Fin S2048x512.rank)
  bcast_S_S512 : S_.BroadcastsInDim S512 (![] : Fin 0 → Fin S512.rank)

variable [Facts]

def fn {F : FTy → Type} [FloatOps F] (main_arg0 : FVec F S8192x2048 .f32) (main_arg1 : FVec F S2048x2048 .f32) (main_arg2 : FVec F S2048 .f32) (main_arg3 : FVec F S2048x512 .f32) (main_arg4 : FVec F S512 .f32) (main_arg5 : FVec F S2048x512 .f32) (main_arg6 : FVec F S512 .f32) (main_arg7 : FVec F S2048x2048 .f32) (main_arg8 : FVec F S2048 .f32) (main_arg9 : IVec S8 32) (main_arg10 : IVec S8 32) (main_arg11 : IVec S_ 32) : IVec S8192x2048 1 × IVec S2048x2048 1 × IVec S2048 1 × IVec S2048x512 1 × IVec S512 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048x512 .f32 := Host.absf main_arg3
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  (main_v2, main_v5, main_v8, main_v11, main_v14)
-- ==== Kernel.lean ====
abbrev S8192x2048 : Shape := ⟨2, ![8192, 2048]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩
abbrev S8 : Shape := ⟨1, ![8]⟩
abbrev S_ : Shape := ⟨0, ![]⟩
abbrev S2048x3072 : Shape := ⟨2, ![2048, 3072]⟩
abbrev S3072 : Shape := ⟨1, ![3072]⟩
abbrev S1x3072 : Shape := ⟨2, ![1, 3072]⟩
abbrev S8192x512 : Shape := ⟨2, ![8192, 512]⟩
abbrev S1024x2048 : Shape := ⟨2, ![1024, 2048]⟩
abbrev S1024x512 : Shape := ⟨2, ![1024, 512]⟩
abbrev S1024x3072 : Shape := ⟨2, ![1024, 3072]⟩
abbrev S1024x128 : Shape := ⟨2, ![1024, 128]⟩
abbrev S1024x16 : Shape := ⟨2, ![1024, 16]⟩
abbrev S1024x144 : Shape := ⟨2, ![1024, 144]⟩
abbrev S512x512 : Shape := ⟨2, ![512, 512]⟩
abbrev S256x256 : Shape := ⟨2, ![256, 256]⟩
abbrev S512x128 : Shape := ⟨2, ![512, 128]⟩
abbrev S512x1 : Shape := ⟨2, ![512, 1]⟩
abbrev S512x144 : Shape := ⟨2, ![512, 144]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S256x144 : Shape := ⟨2, ![256, 144]⟩
abbrev S768x128 : Shape := ⟨2, ![768, 128]⟩
abbrev S256x768 : Shape := ⟨2, ![256, 768]⟩
abbrev S768x144 : Shape := ⟨2, ![768, 144]⟩
abbrev S1x2048 : Shape := ⟨2, ![1, 2048]⟩

abbrev nBuf : Space → Nat
  | .hbm => 23
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x512, .f32⟩
  | .hbm, ⟨4, _⟩ => ⟨S512, .f32⟩
  | .hbm, ⟨5, _⟩ => ⟨S2048x512, .f32⟩
  | .hbm, ⟨6, _⟩ => ⟨S512, .f32⟩
  | .hbm, ⟨7, _⟩ => ⟨S2048x2048, .f32⟩
  | .hbm, ⟨8, _⟩ => ⟨S2048, .f32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S2048x3072, .f32⟩
  | .hbm, ⟨13, _⟩ => ⟨S2048x3072, .bf16⟩
  | .hbm, ⟨14, _⟩ => ⟨S3072, .f32⟩
  | .hbm, ⟨15, _⟩ => ⟨S1x3072, .f32⟩
  | .hbm, ⟨16, _⟩ => ⟨S8192x2048, .bf16⟩
  | .hbm, ⟨17, _⟩ => ⟨S8192x512, .bf16⟩
  | .hbm, ⟨18, _⟩ => ⟨S8192x512, .bf16⟩
  | .hbm, ⟨19, _⟩ => ⟨S8192x2048, .bf16⟩
  | .hbm, ⟨20, _⟩ => ⟨S2048x2048, .bf16⟩
  | .hbm, ⟨21, _⟩ => ⟨S1x2048, .f32⟩
  | .hbm, ⟨22, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x3072, .bf16⟩
  | .local _ .vmem, ⟨3, _⟩ => ⟨S1x3072, .f32⟩
  | .local _ .vmem, ⟨4, _⟩ => ⟨S1024x2048, .bf16⟩
  | .local _ .vmem, ⟨5, _⟩ => ⟨S1024x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x512, .bf16⟩
  | .local _ .vmem, ⟨17, _⟩ => ⟨S1024x512, .bf16⟩
  | .local _ .vmem, ⟨18, _⟩ => ⟨S1024x2048, .bf16⟩
  | .local _ .vmem, ⟨19, _⟩ => ⟨S1024x2048, .bf16⟩
  | .local _ .vmem, ⟨20, _⟩ => ⟨S2048x2048, .bf16⟩
  | .local _ .vmem, ⟨21, _⟩ => ⟨S1x2048, .f32⟩
  | .local _ .vmem, ⟨22, _⟩ => ⟨S1024x2048, .f32⟩
  | .local _ .vmem, ⟨23, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== KernelIdeal.lean ====
variable {F : FTy → Type} [FloatOps F] [Named F]
def κ : String → Option EReal := fun
  | "scale_log2e" => some (((Real.sqrt 128)⁻¹ * (Real.log 2)⁻¹ : ℝ) : EReal)
  | _ => none
-- ==== ReferenceIdeal.lean ====
abbrev S8192x2048 : Shape := ⟨2, ![8192, 2048]⟩
abbrev S2048x2048 : Shape := ⟨2, ![2048, 2048]⟩
abbrev S2048 : Shape := ⟨1, ![2048]⟩
abbrev S2048x512 : Shape := ⟨2, ![2048, 512]⟩
abbrev S512 : Shape := ⟨1, ![512]⟩
abbrev S8 : Shape := ⟨1, ![8]⟩
abbrev S_ : Shape := ⟨0, ![]⟩
abbrev S1x2048 : Shape := ⟨2, ![1, 2048]⟩
abbrev S8x1024x4x4x128 : Shape := ⟨5, ![8, 1024, 4, 4, 128]⟩
abbrev S8192x512 : Shape := ⟨2, ![8192, 512]⟩
abbrev S1x512 : Shape := ⟨2, ![1, 512]⟩
abbrev S8x1024x4x128 : Shape := ⟨4, ![8, 1024, 4, 128]⟩
abbrev S8x4x1024x1024x4 : Shape := ⟨5, ![8, 4, 1024, 1024, 4]⟩
abbrev S8x4x4x1024x1024 : Shape := ⟨5, ![8, 4, 4, 1024, 1024]⟩
abbrev S1024x1024 : Shape := ⟨2, ![1024, 1024]⟩
abbrev S8x4x4x1024 : Shape := ⟨4, ![8, 4, 4, 1024]⟩
abbrev S8x4x4x1024x1 : Shape := ⟨5, ![8, 4, 4, 1024, 1]⟩
abbrev S8x4x128x4x1024 : Shape := ⟨5, ![8, 4, 128, 4, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x512, .f32⟩
  | .hbm, ⟨4, _⟩ => ⟨S512, .f32⟩
  | .hbm, ⟨5, _⟩ => ⟨S2048x512, .f32⟩
  | .hbm, ⟨6, _⟩ => ⟨S512, .f32⟩
  | .hbm, ⟨7, _⟩ => ⟨S2048x2048, .f32⟩
  | .hbm, ⟨8, _⟩ => ⟨S2048, .f32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8x1024x4x4x128, .f32⟩
  | .hbm, ⟨21, _⟩ => ⟨S8192x512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S8x1024x4x128, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8x1024x4x128, .f32⟩
  | .hbm, ⟨31, _⟩ => ⟨S8x4x1024x1024x4, .f32⟩
  | .hbm, ⟨32, _⟩ => ⟨S8x4x4x1024x1024, .f32⟩
  | .hbm, ⟨33, _⟩ => ⟨S8x4x4x1024x1024, .f32⟩
  | .hbm, ⟨34, _⟩ => ⟨S8x4x4x1024x1024, .f32⟩
  | .hbm, ⟨35, _⟩ => ⟨S_, .i1⟩
  | .hbm, ⟨36, _⟩ => ⟨S1024x1024, .i1⟩
  | .hbm, ⟨37, _⟩ => ⟨S1024x1024, .i32⟩
  | .hbm, ⟨38, _⟩ => ⟨S_, .i32⟩
  | .hbm, ⟨39, _⟩ => ⟨S1024x1024, .i32⟩
  | .hbm, ⟨40, _⟩ => ⟨S1024x1024, .i32⟩
  | .hbm, ⟨41, _⟩ => ⟨S1024x1024, .i32⟩
  | .hbm, ⟨42, _⟩ => ⟨S1024x1024, .i1⟩
  | .hbm, ⟨43, _⟩ => ⟨S_, .i1⟩
  | .hbm, ⟨44, _⟩ => ⟨S1024x1024, .i1⟩
  | .hbm, ⟨45, _⟩ => ⟨S1024x1024, .i1⟩
  | .hbm, ⟨46, _⟩ => ⟨S_, .f32⟩
  | .hbm, ⟨47, _⟩ => ⟨S_, .f32⟩
  | .hbm, ⟨48, _⟩ => ⟨S8x4x4x1024x1024, .i1⟩
  | .hbm, ⟨49, _⟩ => ⟨S8x4x4x1024x1024, .f32⟩
  | .hbm, ⟨50, _⟩ => ⟨S8x4x4x1024x1024, .f32⟩
  | .hbm, ⟨51, _⟩ => ⟨S_, .f32⟩
  | .hbm, ⟨52, _⟩ => ⟨S8x4x4x1024, .f32⟩
  | .hbm, ⟨53, _⟩ => ⟨S_, .f32⟩
  | .hbm, ⟨54, _⟩ => ⟨S8x4x4x1024, .f32⟩
  | .hbm, ⟨55, _⟩ => ⟨S8x4x4x1024, .f32⟩
  | .hbm, ⟨56, _⟩ => ⟨S8x4x4x1024x1, .f32⟩
  | .hbm, ⟨57, _⟩ => ⟨S8x4x4x1024x1024, .f32⟩
  | .hbm, ⟨58, _⟩ => ⟨S8x4x4x1024x1024, .f32⟩
  | .hbm, ⟨59, _⟩ => ⟨S8x4x4x1024x1024, .f32⟩
  | .hbm, ⟨60, _⟩ => ⟨S_, .f32⟩
  | .hbm, ⟨61, _⟩ => ⟨S8x4x4x1024, .f32⟩
  | .hbm, ⟨62, _⟩ => ⟨S8x4x4x1024x1, .f32⟩
  | .hbm, ⟨63, _⟩ => ⟨S8x4x4x1024x1024, .f32⟩
  | .hbm, ⟨64, _⟩ => ⟨S8x4x4x1024x1024, .f32⟩
  | .hbm, ⟨65, _⟩ => ⟨S8x4x128x4x1024, .f32⟩
  | .hbm, ⟨66, _⟩ => ⟨S8x1024x4x4x128, .f32⟩
  | .hbm, ⟨67, _⟩ => ⟨S8192x2048, .f32⟩
  | .hbm, ⟨68, _⟩ => ⟨S8192x2048, .f32⟩
  | .hbm, ⟨69, _⟩ => ⟨S1x2048, .f32⟩
  | .hbm, ⟨70, _⟩ => ⟨S8192x2048, .f32⟩
  | .hbm, ⟨71, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_c_0 : Ref sig .tc := ⟨.hbm, 43, rfl⟩
abbrev main_call0_v5 : Ref sig .tc := ⟨.hbm, 44, rfl⟩
abbrev main_v22 : Ref sig .tc := ⟨.hbm, 45, rfl⟩
abbrev main_cst_1 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_cst_3 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_4 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩

abbrev nD : Nat := 1
abbrev τ : Topo := Topo.v7x

variable {F : FTy → Type} [FloatOps F]
-- ==== Proof.KernelRun.lean ====
/- The kernel's run with its result: every execution ends with the arguments as launched and the result array at the
   contents of the last boundary. -/
module

public import proofs.«01_k».proof.Proof.Gen.KernelIdeal.Frame

@[expose] public section

set_option maxRecDepth 16384

noncomputable section

namespace Cert.KernelIdeal.Arrays

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- THE RUN: from any memory with zero counters every execution of @main ends, the result array at what the last region
    leaves and the arguments unchanged. -/
theorem run : θ_run defs (onTc (τ := τ) (main (F := F))) ⟨m, fun _ => 0, ρ⟩ (fun r => (∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.KernelIdeal.Arrays

end
-- ==== Proof.Softmax.lean ====
/- The mathematics of one row of causal attention over the extended reals: the softmax of real logits over the
   positions up to the row's own, weighting values that may be any extended real. The two ways in which it is computed,
   the kernel's (powers of two, a maximum over a larger set, one division at the end) and the reference's (the masked
   logits at −∞, the exponential, every weight divided), are both shown equal to it. -/
module

public import Idealize.ShloMosaic.Lib.Pointwise

@[expose] public section

noncomputable section

namespace Cert.Softmax

open Idealize.ShloMosaic

/-- The weight of position `t` in row `i`, before it is normalised: `exp (z t)` up to the row's own position, zero after. -/
def weight {n : ℕ} (i : Fin n) (z : Fin n → ℝ) (t : Fin n) : ℝ :=
  if t ≤ i then Real.exp (z t) else 0

/-- The sum of a row's weights. -/
def total {n : ℕ} (i : Fin n) (z : Fin n → ℝ) : ℝ := ∑ t, weight i z t

/-- Row `i` of causal attention: the values weighted by the softmax of the logits `z` over the positions `t ≤ i`. -/
def row {n : ℕ} (i : Fin n) (z : Fin n → ℝ) (v : Fin n → EReal) : EReal :=
  ∑ t, ((weight i z t / total i z : ℝ) : EReal) * v t

theorem weight_nonneg {n : ℕ} (i : Fin n) (z : Fin n → ℝ) (t : Fin n) : 0 ≤ weight i z t := by
  unfold weight; split
  · exact (Real.exp_pos _).le
  · exact le_rfl

theorem total_pos {n : ℕ} (i : Fin n) (z : Fin n → ℝ) : 0 < total i z := by
  refine Finset.sum_pos' (fun t _ => weight_nonneg i z t) ⟨i, Finset.mem_univ _, ?_⟩
  simp only [weight, le_refl, if_true]
  exact Real.exp_pos _

/-- A finite sum of real numbers is the same sum over the extended reals. -/
theorem coe_sum {ι : Type*} (s : Finset ι) (f : ι → ℝ) : ((∑ t ∈ s, f t : ℝ) : EReal) = ∑ t ∈ s, (f t : EReal) := by
  classical
  induction s using Finset.induction_on with
  | empty => simp
  | insert a s ha ih => rw [Finset.sum_insert ha, Finset.sum_insert ha, EReal.coe_add, ih]

/-- A nonnegative real factor moves into a sum of extended reals. -/
theorem sum_mul_coe {ι : Type*} (s : Finset ι) (f : ι → EReal) {c : ℝ} (hc : 0 ≤ c) :
    (∑ t ∈ s, f t) * (c : EReal) = ∑ t ∈ s, f t * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- THE KERNEL'S ROW. With base-two logits `s` and any real shift `M`, the sum of the values weighted by
    `2 ^ (s t − M)` over `t ≤ i`, times one over the sum of these powers, is the row at the logits `log 2 · s`. -/
theorem row_of_exp2 {n : ℕ} (i : Fin n) (s : Fin n → ℝ) (M : ℝ) (v : Fin n → EReal) :
    (∑ t, (if t ≤ i then Ideal.exp2 ((s t : EReal) - (M : EReal)) else 0) * v t)
        * Ideal.div 1 (∑ t, (if t ≤ i then Ideal.exp2 ((s t : EReal) - (M : EReal)) else 0))
      = row i (fun t => Real.log 2 * s t) v := by
  set z : Fin n → ℝ := fun t => Real.log 2 * s t
  have hK : 0 < Real.exp (-(Real.log 2 * M)) := Real.exp_pos _
  have hw : ∀ t, (if t ≤ i then Ideal.exp2 ((s t : EReal) - (M : EReal)) else 0)
      = ((weight i z t * Real.exp (-(Real.log 2 * M)) : ℝ) : EReal) := by
    intro t
    unfold weight
    split
    · rw [← EReal.coe_sub, Ideal.exp2_coe, ← Real.exp_add]
      congr 1
      change (2 : ℝ) ^ (s t - M) = _
      rw [Real.rpow_def_of_pos (by norm_num : (0 : ℝ) < 2)]
      congr 1
      change Real.log 2 * (s t - M) = Real.log 2 * s t + -(Real.log 2 * M)
      ring
    · simp
  have ht := total_pos i z
  have hsum : (∑ t, (if t ≤ i then Ideal.exp2 ((s t : EReal) - (M : EReal)) else 0))
      = ((total i z * Real.exp (-(Real.log 2 * M)) : ℝ) : EReal) := by
    rw [Finset.sum_congr rfl fun t _ => hw t, ← coe_sum, ← Finset.sum_mul, total]
  rw [hsum, Ideal.div_coe (mul_pos ht hK).ne', one_mul, sum_mul_coe _ _ (by positivity)]
  refine Finset.sum_congr rfl fun t _ => ?_
  rw [hw t, mul_right_comm, ← EReal.coe_mul]
  congr 2
  field_simp

/-- THE REFERENCE'S ROW. With real logits `z`, put at −∞ after the row's own position, and any real shift `M`, the
    values weighted by the exponentials, each divided by their sum, are the row. -/
theorem row_of_exp {n : ℕ} (i : Fin n) (z : Fin n → ℝ) (M : ℝ) (v : Fin n → EReal) :
    (∑ t, v t * Ideal.div (Ideal.exp ((if t ≤ i then (z t : EReal) else ⊥) - (M : EReal)))
        (∑ u, Ideal.exp ((if u ≤ i then (z u : EReal) else ⊥) - (M : EReal))))
      = row i z v := by
  have hK : 0 < Real.exp (-M) := Real.exp_pos _
  have hw : ∀ t, Ideal.exp ((if t ≤ i then (z t : EReal) else ⊥) - (M : EReal))
      = ((weight i z t * Real.exp (-M) : ℝ) : EReal) := by
    intro t
    unfold weight
    split
    · rw [← EReal.coe_sub, Ideal.exp_coe, ← Real.exp_add, sub_eq_add_neg]
    · simp [sub_eq_add_neg]
  have ht := total_pos i z
  have hsum : (∑ u, Ideal.exp ((if u ≤ i then (z u : EReal) else ⊥) - (M : EReal)))
      = ((total i z * Real.exp (-M) : ℝ) : EReal) := by
    rw [Finset.sum_congr rfl fun t _ => hw t, ← coe_sum, ← Finset.sum_mul, total]
  rw [hsum]
  refine Finset.sum_congr rfl fun t _ => ?_
  rw [Ideal.div_coe (mul_pos ht hK).ne', hw t, mul_comm, ← EReal.coe_mul]
  congr 2
  field_simp

/-- The maximum of finitely many real numbers, at least one, started at −∞, is a real number. -/
theorem fold_max_coe {n : ℕ} (h : 0 < n) (f : Fin n → ℝ) :
    ∃ M : ℝ, Finset.univ.fold max (⊥ : EReal) (fun t => (f t : EReal)) = (M : EReal) := by
  refine ⟨(Finset.univ.fold max (⊥ : EReal) fun t => (f t : EReal)).toReal, (EReal.coe_toReal ?_ ?_).symm⟩
  · exact ((Finset.fold_max_lt _).2 ⟨bot_lt_top, fun t _ => EReal.coe_lt_top _⟩).ne
  · have hlt : (⊥ : EReal) < Finset.univ.fold max (⊥ : EReal) (fun t => (f t : EReal)) :=
      (Finset.lt_fold_max _).2 (.inr ⟨(⟨0, h⟩ : Fin n), Finset.mem_univ _, EReal.bot_lt_coe _⟩)
    exact hlt.ne'

/-- The maximum of a row's masked logits, started at −∞, is a real number: the row's own position is not masked. -/
theorem fold_max_masked {n : ℕ} (i : Fin n) (z : Fin n → ℝ) :
    ∃ M : ℝ, Finset.univ.fold max (⊥ : EReal) (fun t => if t ≤ i then (z t : EReal) else ⊥) = (M : EReal) := by
  refine ⟨(Finset.univ.fold max (⊥ : EReal) fun t => if t ≤ i then (z t : EReal) else ⊥).toReal,
    (EReal.coe_toReal ?_ ?_).symm⟩
  · refine ((Finset.fold_max_lt _).2 ⟨bot_lt_top, fun t _ => ?_⟩).ne
    split
    · exact EReal.coe_lt_top _
    · exact bot_lt_top
  · refine (Finset.lt_fold_max _).2 (.inr ⟨i, Finset.mem_univ _, ?_⟩) |>.ne'
    simp only [le_refl, if_true]
    exact EReal.bot_lt_coe _

/-- A sum over `n` positions of which only the first `a + b` count, taken as the block of `b` after the first `a`
    and then the first `a`. -/
theorem sum_blocks {n : ℕ} (a b : ℕ) (hab : a + b ≤ n) (f : Fin n → EReal) (hf : ∀ t : Fin n, a + b ≤ t → f t = 0) :
    (∑ j : Fin b, f ⟨a + j, by omega⟩) + (∑ j : Fin a, f ⟨j, by omega⟩) = ∑ t, f t := by
  obtain ⟨c, rfl⟩ := Nat.exists_eq_add_of_le hab
  rw [Fin.sum_univ_add, Fin.sum_univ_add]
  have h0 : ∑ j : Fin c, f (Fin.natAdd (a + b) j) = 0 :=
    Finset.sum_eq_zero fun j _ => hf _ (by simp)
  rw [h0, add_zero, add_comm]
  rfl

/-- The same sum when the block after the first `a` is masked by the row `r` of the block: what is left is the sum
    over the positions up to the row's own, `a + r`. -/
theorem sum_masked {n : ℕ} (a b : ℕ) (hab : a + b ≤ n) (r : Fin b) (f : Fin n → EReal) :
    (∑ j : Fin b, if (j : ℕ) ≤ r then f ⟨a + j, by omega⟩ else 0) + (∑ j : Fin a, f ⟨j, by omega⟩)
      = ∑ t : Fin n, if t ≤ (⟨a + r, by omega⟩ : Fin n) then f t else 0 := by
  have h := sum_blocks a b hab (fun t : Fin n => if t ≤ (⟨a + r, by omega⟩ : Fin n) then f t else 0) (fun t ht =>
    if_neg (by rw [Fin.le_def]; have := r.isLt; simp only; omega))
  rw [← h]
  congr 1
  · refine Finset.sum_congr rfl fun j _ => ?_
    have : ((⟨a + j, by omega⟩ : Fin n) ≤ ⟨a + r, by omega⟩) ↔ (j : ℕ) ≤ r := by rw [Fin.le_def]; simp
    simp only [this]
  · refine Finset.sum_congr rfl fun j _ => ?_
    rw [if_pos]
    rw [Fin.le_def]; have := j.isLt; simp only; omega

/-- A row of a block of `b` rows after the first `a`, as a kernel computes it: the block's own positions masked, the
    first `a` positions whole, both with one real shift `M`, and one division at the end. -/
theorem row_of_blocks {n : ℕ} (a b : ℕ) (hab : a + b ≤ n) (r : Fin b) (S : Fin n → EReal) (s : Fin n → ℝ)
    (hS : ∀ t, S t = (s t : EReal)) (M : EReal) (hM : ∃ x : ℝ, M = (x : EReal)) (v : Fin n → EReal) :
    ((∑ j : Fin b, if (j : ℕ) ≤ r then Ideal.exp2 (S ⟨a + j, by omega⟩ - M) * v ⟨a + j, by omega⟩ else 0)
          + (∑ j : Fin a, Ideal.exp2 (S ⟨j, by omega⟩ - M) * v ⟨j, by omega⟩))
        * Ideal.div 1 ((∑ j : Fin b, if (j : ℕ) ≤ r then Ideal.exp2 (S ⟨a + j, by omega⟩ - M) else 0)
          + (∑ j : Fin a, Ideal.exp2 (S ⟨j, by omega⟩ - M)))
      = row ⟨a + r, by omega⟩ (fun t => Real.log 2 * s t) v := by
  obtain ⟨x, rfl⟩ := hM
  rw [sum_masked a b hab r fun t => Ideal.exp2 (S t - x) * v t, sum_masked a b hab r fun t => Ideal.exp2 (S t - x)]
  rw [← row_of_exp2 ⟨a + r, by omega⟩ s x v]
  simp only [hS, ite_mul, zero_mul]

/-- The same for the first block, which has no positions before it. -/
theorem row_of_block {n : ℕ} (b : ℕ) (hb : b ≤ n) (r : Fin b) (S : Fin n → EReal) (s : Fin n → ℝ)
    (hS : ∀ t, S t = (s t : EReal)) (M : EReal) (hM : ∃ x : ℝ, M = (x : EReal)) (v : Fin n → EReal) :
    (∑ j : Fin b, if (j : ℕ) ≤ r then Ideal.exp2 (S ⟨j, by omega⟩ - M) * v ⟨j, by omega⟩ else 0)
        * Ideal.div 1 (∑ j : Fin b, if (j : ℕ) ≤ r then Ideal.exp2 (S ⟨j, by omega⟩ - M) else 0)
      = row ⟨r, by omega⟩ (fun t => Real.log 2 * s t) v := by
  have h := row_of_blocks 0 b (by omega) r S s hS M hM v
  simp only [Finset.univ_eq_empty, Finset.sum_empty, add_zero, Nat.zero_add] at h
  exact h

end Cert.Softmax

end
-- ==== Proof.Chunk.lean ====
/- One stored block of the attention kernel, read at an index: for each of the three row chunks of a sequence (rows 0–511,
   512–767 and 768–1023) what the kernel stores for one head is the row of causal attention (`Softmax.row`) at the
   logits `log 2 · q · k`, when the queries and keys that it reads are real numbers. -/
module

public import proofs.«01_k».proof.Proof.Gen.KernelIdeal.Skeleton
public import proofs.«01_k».proof.Proof.Softmax
public import Idealize.ShloMosaic.Lib.Pipeline.ValueKit
public import Idealize.ShloMosaic.Lib.WordCmp

@[expose] public section

set_option maxRecDepth 16384

noncomputable section

namespace Cert.KernelIdeal.Chunk

open Idealize.ShloMosaic Idealize.ShloMosaic.TcCoe Idealize.SL.Sem
open Cert.KernelIdeal Cert.KernelIdeal.Gen

/-- An array of which every element is a real number. -/
def Finite {s : Shape} (x : s.Idx → EReal) : Prop := ∀ i, x i = ((x i).toReal : EReal)

/-- The product of a row of `n` real numbers with another is the product of their real values. -/
theorem dot_coe {n : ℕ} (x y : Fin n → EReal) (hx : ∀ i, x i = ((x i).toReal : EReal))
    (hy : ∀ i, y i = ((y i).toReal : EReal)) :
    ∑ i, x i * y i = ((∑ i, (x i).toReal * (y i).toReal : ℝ) : EReal) := by
  rw [Softmax.coe_sum]
  refine Finset.sum_congr rfl fun i _ => ?_
  rw [EReal.coe_mul, ← hx i, ← hy i]

/-- The pattern of −∞ that the maxima start from. -/
theorem ofBits_neg_inf : Ideal.ofBits .f32 0xFF800000#32 = ⊥ := by
  simp [Ideal.ofBits, Ideal.ieee]

/-- The causal mask inside a chunk: position `j` counts in row `r` when `j ≤ r`. -/
theorem select_mask {b : ℕ} (hb : b < 2 ^ 31) (r j : Fin b) (x y : EReal) :
    Scalar.select (IntOp.cmpi .sge (BitVec.ofNat 32 r) (BitVec.ofNat 32 j)) x y = if (j : ℕ) ≤ r then x else y := by
  unfold Scalar.select
  have h : IntOp.cmpi .sge (BitVec.ofNat 32 r) (BitVec.ofNat 32 j) = 1 ↔ (j : ℕ) ≤ r :=
    WordCmp.cmpi_sge_ofNat_eq_one_iff (by omega) (by omega)
  simp only [h]

/-- The maximum of one chunk's real scores, started at −∞, is a real number. -/
theorem max_real {n b : ℕ} (hb : 0 < b) (S : Fin n → EReal) (s : Fin n → ℝ) (hS : ∀ t, S t = (s t : EReal))
    (g : Fin b → Fin n) :
    ∃ x : ℝ, Finset.univ.fold max (Ideal.ofBits .f32 0xFF800000#32) (fun j => S (g j)) = (x : EReal) := by
  rw [ofBits_neg_inf]
  simp only [hS]
  exact Softmax.fold_max_coe hb fun j => s (g j)

/-- The greater of two real numbers is a real number. -/
theorem max_real_max {x y : EReal} (hx : ∃ a : ℝ, x = (a : EReal)) (hy : ∃ a : ℝ, y = (a : EReal)) :
    ∃ a : ℝ, max x y = (a : EReal) := by
  obtain ⟨a, rfl⟩ := hx
  obtain ⟨b, rfl⟩ := hy
  rcases le_total (a : EReal) b with h | h
  · exact ⟨b, max_eq_right h⟩
  · exact ⟨a, max_eq_left h⟩

/-- The base-two logit of a query row against the key at position `t`. -/
def score {b : ℕ} (q : (⟨2, ![b, 128]⟩ : Shape).Idx → EReal) (k : FVec Ideal S1024x128 .bf16) (r : Fin b) (t : Fin 1024) : ℝ :=
  ∑ d : Fin 128, (q (ix2 r d)).toReal * (k (ix2 t d)).toReal

/-- ROWS 0–511: what the first chunk stores for one head. -/
theorem chunk0 (q : FVec Ideal S512x128 .bf16) (k v : FVec Ideal S1024x128 .bf16) (hq : Finite q) (hk : Finite k)
    (r : Fin 512) (d : Fin 128) :
    k1_pay6 (F := Ideal) k v q (ix2 r d)
      = Softmax.row (⟨r, by omega⟩ : Fin 1024) (fun t => Real.log 2 * score q k r t) (fun t => v (ix2 t d)) := by
  have hS : ∀ t : Fin 1024, ∑ x : Fin 128, q (ix2 r x) * k (ix2 t x) = (score q k r t : EReal) :=
    fun t => dot_coe _ _ (fun x => hq _) (fun x => hk _)
  pointwise [k1_pay6, k1_pay2, k1_pay3, k1_pay4]
  simp only [select_mask (b := 512) (by norm_num)]
  exact Softmax.row_of_block 512 (by norm_num) r (fun t : Fin 1024 => ∑ x : Fin 128, q (ix2 r x) * k (ix2 t x))
    (score q k r) hS _ (max_real (by norm_num) _ _ hS fun j => ⟨j, by omega⟩) (fun t => v (ix2 t d))

/-- ROWS 512–767: what the second chunk stores for one head. -/
theorem chunk1 (q : FVec Ideal S256x128 .bf16) (k v : FVec Ideal S1024x128 .bf16) (hq : Finite q) (hk : Finite k)
    (r : Fin 256) (d : Fin 128) :
    k1_pay22 (F := Ideal) (k1_pay2 (F := Ideal) k) (k1_pay3 (F := Ideal) v) k1_pay5 q (ix2 r d)
      = Softmax.row (⟨512 + r, by omega⟩ : Fin 1024) (fun t => Real.log 2 * score q k r t) (fun t => v (ix2 t d)) := by
  have hS : ∀ t : Fin 1024, ∑ x : Fin 128, q (ix2 r x) * k (ix2 t x) = (score q k r t : EReal) :=
    fun t => dot_coe _ _ (fun x => hq _) (fun x => hk _)
  pointwise [k1_pay22, k1_pay2, k1_pay3, k1_pay5]
  simp only [select_mask (b := 256) (by norm_num)]
  exact Softmax.row_of_blocks 512 256 (by norm_num) r (fun t : Fin 1024 => ∑ x : Fin 128, q (ix2 r x) * k (ix2 t x))
    (score q k r) hS _ (max_real_max (max_real (by norm_num) _ _ hS fun j => ⟨512 + j, by omega⟩)
      (max_real (by norm_num) _ _ hS fun j => ⟨j, by omega⟩)) (fun t => v (ix2 t d))

/-- ROWS 768–1023: what the third chunk stores for one head. -/
theorem chunk2 (q : FVec Ideal S256x128 .bf16) (k v : FVec Ideal S1024x128 .bf16) (hq : Finite q) (hk : Finite k)
    (r : Fin 256) (d : Fin 128) :
    k1_pay40 (F := Ideal) (k1_pay2 (F := Ideal) k) (k1_pay3 (F := Ideal) v) k1_pay5 q (ix2 r d)
      = Softmax.row (⟨768 + r, by omega⟩ : Fin 1024) (fun t => Real.log 2 * score q k r t) (fun t => v (ix2 t d)) := by
  have hS : ∀ t : Fin 1024, ∑ x : Fin 128, q (ix2 r x) * k (ix2 t x) = (score q k r t : EReal) :=
    fun t => dot_coe _ _ (fun x => hq _) (fun x => hk _)
  pointwise [k1_pay40, k1_pay2, k1_pay3, k1_pay5]
  simp only [select_mask (b := 256) (by norm_num)]
  exact Softmax.row_of_blocks 768 256 (by norm_num) r (fun t : Fin 1024 => ∑ x : Fin 128, q (ix2 r x) * k (ix2 t x))
    (score q k r) hS _ (max_real_max (max_real (by norm_num) _ _ hS fun j => ⟨768 + j, by omega⟩)
      (max_real (by norm_num) _ _ hS fun j => ⟨j, by omega⟩)) (fun t => v (ix2 t d))

end Cert.KernelIdeal.Chunk

end
-- ==== Proof.Spec.lean ====
/- The mathematics both programs compute: three linear maps of the tokens, causal attention of eight packed sequences of
   1024 tokens with sixteen query heads on four key heads, and an output linear map, over the extended reals. -/
module

public import proofs.«01_k».proof.Proof.Softmax
public import Idealize.ShloMosaic.Lib.Pipeline.ValueKit

@[expose] public section

set_option maxRecDepth 16384

noncomputable section

namespace Cert.Spec

open Idealize.ShloMosaic Idealize.ShloMosaic.TcCoe

/-- An array of `a` rows and `b` columns. -/
abbrev Mat (a b : ℕ) : Type := (⟨2, ![a, b]⟩ : Shape).Idx → EReal

/-- A vector of `a` entries. -/
abbrev Row (a : ℕ) : Type := (⟨1, ![a]⟩ : Shape).Idx → EReal

/-- Entry `(R, C)` of the linear map `W`, `b` of the rows of `X`. -/
def lin {a n p : ℕ} (X : Mat a n) (W : Mat n p) (b : Row p) (R : Fin a) (C : Fin p) : EReal :=
  (∑ k : Fin n, X (ix2 R k) * W (ix2 k C)) + b (ix1 C)

/-- A linear map of real numbers is real. -/
theorem lin_real {a n p : ℕ} {X : Mat a n} {W : Mat n p} {b : Row p} (hX : ∀ i, X i = ((X i).toReal : EReal))
    (hW : ∀ i, W i = ((W i).toReal : EReal)) (hb : ∀ i, b i = ((b i).toReal : EReal)) (R : Fin a) (C : Fin p) :
    lin X W b R C = ((lin X W b R C).toReal : EReal) := by
  have h : lin X W b R C = ((((∑ k : Fin n, (X (ix2 R k)).toReal * (W (ix2 k C)).toReal) + (b (ix1 C)).toReal : ℝ)) : EReal) := by
    unfold lin
    rw [EReal.coe_add, Softmax.coe_sum, ← hb]
    refine congrArg (· + _) (Finset.sum_congr rfl fun k _ => ?_)
    rw [EReal.coe_mul, ← hX, ← hW]
  rw [h, EReal.toReal_coe]

/-- Entry `(R, C)` of the attention: token `R` is position `R % 1024` of sequence `R / 1024`, column `C` is lane `C % 128` of
    query head `C / 128`, which attends with key head `C / 512`; the logits are scaled by `1 / √128`. -/
def attend (q : Fin 8192 → Fin 2048 → EReal) (k v : Fin 8192 → Fin 512 → EReal) (R : Fin 8192) (C : Fin 2048) : EReal :=
  Softmax.row (⟨(R : ℕ) % 1024, by omega⟩ : Fin 1024)
    (fun t => (Real.sqrt 128)⁻¹ * ∑ x : Fin 128, (q R ⟨(C : ℕ) / 128 * 128 + x, by omega⟩).toReal
      * (k ⟨(R : ℕ) / 1024 * 1024 + t, by omega⟩ ⟨(C : ℕ) / 512 * 128 + x, by omega⟩).toReal)
    (fun t => v ⟨(R : ℕ) / 1024 * 1024 + t, by omega⟩ ⟨(C : ℕ) / 512 * 128 + (C : ℕ) % 128, by omega⟩)

/-- Entry `(R, E)` of the result. -/
def result (X : Mat 8192 2048) (Wq : Mat 2048 2048) (bq : Row 2048) (Wk : Mat 2048 512) (bk : Row 512) (Wv : Mat 2048 512)
    (bv : Row 512) (Wo : Mat 2048 2048) (bo : Row 2048) (R : Fin 8192) (E : Fin 2048) : EReal :=
  (∑ C : Fin 2048, attend (lin X Wq bq) (lin X Wk bk) (lin X Wv bv) R C * Wo (ix2 C E)) + bo (ix1 E)

end Cert.Spec

end
-- ==== Proof.RefLogits.lean ====
/- The reference's logits: the three linear maps read by sequence, position, head and lane, and the scaled products of
   queries and keys, at −∞ where the key comes after the query. -/
module

public import proofs.«01_k».proof.Proof.Gen.ReferenceIdeal.Read
public import proofs.«01_k».proof.Proof.Chunk
public import proofs.«01_k».proof.Proof.Spec

@[expose] public section

set_option maxRecDepth 16384

noncomputable section

namespace Cert.ReferenceIdeal.Math

open Idealize.ShloMosaic Idealize.ShloMosaic.TcCoe Idealize.SL.Sem
open Cert.ReferenceIdeal Cert.ReferenceIdeal.Read

variable (X : FVec Ideal S8192x2048 .f32) (Wq : FVec Ideal S2048x2048 .f32) (bq : FVec Ideal S2048 .f32)
  (Wk : FVec Ideal S2048x512 .f32) (bk : FVec Ideal S512 .f32) (Wv : FVec Ideal S2048x512 .f32) (bv : FVec Ideal S512 .f32)

/-- The queries, by sequence `b`, position `s`, key head `h`, head `g` of its group, lane `d`. -/
theorem query (b : Fin 8) (s : Fin 1024) (h g : Fin 4) (d : Fin 128) : val_main_v6 (F := Ideal) X Wq bq (ix5 b s h g d)
    = Spec.lin X Wq bq ⟨(b : ℕ) * 1024 + s, by omega⟩ ⟨(h : ℕ) * 512 + (g : ℕ) * 128 + d, by omega⟩ := by
  pointwise [val_main_v6, val_main_v5, val_main_v4, val_main_v3, val_main_v2, Spec.lin]

/-- The keys, by sequence, position, key head, lane. -/
theorem key (b : Fin 8) (s : Fin 1024) (h : Fin 4) (d : Fin 128) : val_main_v11 (F := Ideal) X Wk bk (ix4 b s h d)
    = Spec.lin X Wk bk ⟨(b : ℕ) * 1024 + s, by omega⟩ ⟨(h : ℕ) * 128 + d, by omega⟩ := by
  pointwise [val_main_v11, val_main_v10, val_main_v9, val_main_v8, val_main_v7, Spec.lin]

/-- The values. -/
theorem val (b : Fin 8) (s : Fin 1024) (h : Fin 4) (d : Fin 128) : val_main_v16 (F := Ideal) X Wv bv (ix4 b s h d)
    = Spec.lin X Wv bv ⟨(b : ℕ) * 1024 + s, by omega⟩ ⟨(h : ℕ) * 128 + d, by omega⟩ := by
  pointwise [val_main_v16, val_main_v15, val_main_v14, val_main_v13, val_main_v12, Spec.lin]

/-- The logit of positions `s`, `t` of sequence `b`, as a real number. -/
def z (b : Fin 8) (h g : Fin 4) (s t : Fin 1024) : ℝ :=
  (Real.sqrt 128)⁻¹ * ∑ x : Fin 128, (Spec.lin X Wq bq ⟨(b : ℕ) * 1024 + s, by omega⟩ ⟨(h : ℕ) * 512 + (g : ℕ) * 128 + x, by omega⟩).toReal
    * (Spec.lin X Wk bk ⟨(b : ℕ) * 1024 + t, by omega⟩ ⟨(h : ℕ) * 128 + x, by omega⟩).toReal

/-- The scale. -/
theorem scale : Ideal.div 1 (Ideal.sqrt (Ideal.ofBits .f32 0x43000000#32)) = (((Real.sqrt 128)⁻¹ : ℝ) : EReal) := by
  have h : Ideal.ofBits .f32 0x43000000#32 = ((128 : ℝ) : EReal) := by
    simp [Ideal.ofBits, Ideal.ieee, -EReal.coe_mul]; norm_num
  have h0 : Real.sqrt 128 ≠ 0 := Real.sqrt_ne_zero'.2 (by norm_num)
  rw [h, Ideal.sqrt_coe, if_neg (by norm_num), ← EReal.coe_one, Ideal.div_coe h0, EReal.coe_one, one_mul, one_div]

/-- Real numbers. -/
abbrev Reals {s : Shape} (x : s.Idx → EReal) : Prop := ∀ i, x i = ((x i).toReal : EReal)

variable {X Wq bq Wk bk}

/-- THE LOGITS, masked. -/
theorem logit (hX : Reals X) (hWq : Reals Wq) (hbq : Reals bq) (hWk : Reals Wk) (hbk : Reals bk)
    (b : Fin 8) (h g : Fin 4) (s t : Fin 1024) : val_main_v23 (F := Ideal) X Wq bq Wk bk (ix5 b h g s t)
      = if t ≤ s then (z X Wq bq Wk bk b h g s t : EReal) else ⊥ := by
  have hS : ∑ x : Fin 128, val_main_v11 (F := Ideal) X Wk bk (ix4 b t h x) * val_main_v6 (F := Ideal) X Wq bq (ix5 b s h g x)
      = ((∑ x : Fin 128, (Spec.lin X Wq bq ⟨(b : ℕ) * 1024 + s, by omega⟩ ⟨(h : ℕ) * 512 + (g : ℕ) * 128 + x, by omega⟩).toReal
    * (Spec.lin X Wk bk ⟨(b : ℕ) * 1024 + t, by omega⟩ ⟨(h : ℕ) * 128 + x, by omega⟩).toReal : ℝ) : EReal) := by
    rw [Softmax.coe_sum]
    refine Finset.sum_congr rfl fun x _ => ?_
    rw [query, key, EReal.coe_mul, ← Spec.lin_real hX hWq hbq, ← Spec.lin_real hX hWk hbk, mul_comm]
  pointwise [val_main_v23, val_main_call1_v1, val_main_call1_v2, val_main_call1_v0, val_main_cst_1, val_main_v22,
    val_main_call0_v4, val_main_call0_v5, val_main_call0_v3, val_main_call0_v2, val_main_call0_v1, val_main_call0_v0,
    val_main_call0_c, val_main_call0_c_0, val_main_v21, val_main_c, val_main_v20, val_main_v19, val_main_v18,
    val_main_v17, val_main_v1, val_main_v0, val_main_cst, val_main_cst_0]
  rw [hS, scale]
  have hs : IntOp.addi (BitVec.ofNat 32 s) 0#32 = BitVec.ofNat 32 s := BitVec.add_zero _
  have hb : ∀ b : Prop, ∀ [Decidable b] (x y : EReal), Scalar.select (if b then (1#1 : BitVec 1) else 0#1) x y = if b then x else y := by
    intro b _ x y
    unfold Scalar.select
    split <;> simp_all
  have hm : Scalar.select (IntOp.cmpi .sge (BitVec.ofNat 32 s) (BitVec.ofNat 32 t)) (1#1 : BitVec 1) 0#1
      = if t ≤ s then (1#1 : BitVec 1) else 0#1 := by
    unfold Scalar.select
    have h : IntOp.cmpi .sge (BitVec.ofNat 32 s) (BitVec.ofNat 32 t) = 1 ↔ (t : ℕ) ≤ s :=
      WordCmp.cmpi_sge_ofNat_eq_one_iff (by omega) (by omega)
    simp only [h, Fin.le_def]
  rw [hs, hm, hb, ← EReal.coe_mul, mul_comm]
  refine if_congr Iff.rfl rfl ?_
  exact KernelIdeal.Chunk.ofBits_neg_inf

end Cert.ReferenceIdeal.Math

end
-- ==== Proof.RefValue.lean ====
/- The reference's result: its softmax is the row weights of the mathematics, its last two operations the attended values and
   the output linear map. -/
module

public import proofs.«01_k».proof.Proof.RefLogits

@[expose] public section

set_option maxRecDepth 16384

noncomputable section

namespace Cert.ReferenceIdeal.Math

open Idealize.ShloMosaic Idealize.ShloMosaic.TcCoe Idealize.SL.Sem
open Cert.ReferenceIdeal Cert.ReferenceIdeal.Read

variable {X : FVec Ideal S8192x2048 .f32} {Wq : FVec Ideal S2048x2048 .f32} {bq : FVec Ideal S2048 .f32}
  {Wk : FVec Ideal S2048x512 .f32} {bk : FVec Ideal S512 .f32} (Wv : FVec Ideal S2048x512 .f32) (bv : FVec Ideal S512 .f32)

/-- A maximum over the last axis, read at an index. -/
theorem max_apply (x : FVec Ideal S8x4x4x1024x1024 .f32) (init : FVec Ideal S_ .f32) (b : Fin 8) (h g : Fin 4) (s : Fin 1024) :
    Host.reduce (FloatOps.maximumf (F := Ideal) (φ := .f32)) x init Gen.reducesTo_S8x4x4x1024x1024_S8x4x4x1024_d4 Gen.h_S_ (ix4 b h g s)
      = Finset.univ.fold max (init (Shape.Idx.first Gen.h_S_)) (fun t : Fin 1024 => x (ix5 b h g s t)) := by
  rw [Host.reduce_eq_fold_single FloatOps.maximumf x init _ (by decide) Gen.h_S_ (ix4 b h g s)]
  refine Finset.fold_congr fun t _ => ?_
  exact congrArg x (funext fun a => Fin.ext (by match a with | ⟨0, _⟩ => rfl | ⟨1, _⟩ => rfl | ⟨2, _⟩ => rfl | ⟨3, _⟩ => rfl | ⟨4, _⟩ => rfl))

/-- The maximum a row subtracts is a real number. -/
theorem rowMax (hX : Reals X) (hWq : Reals Wq) (hbq : Reals bq) (hWk : Reals Wk) (hbk : Reals bk)
    (b : Fin 8) (h g : Fin 4) (s : Fin 1024) : ∃ M : ℝ, val_main_v26 (F := Ideal) X Wq bq Wk bk (ix4 b h g s) = (M : EReal) := by
  obtain ⟨M, hM⟩ := Softmax.fold_max_masked s (z X Wq bq Wk bk b h g s)
  refine ⟨M, ?_⟩
  have e : val_main_v24 (F := Ideal) X Wq bq Wk bk (ix4 b h g s) = (M : EReal) := by
    unfold val_main_v24
    rw [max_apply, ← hM]
    have hb : val_main_cst_2 (F := Ideal) (Shape.Idx.first Gen.h_S_) = ⊥ := KernelIdeal.Chunk.ofBits_neg_inf
    rw [hb]
    exact Finset.fold_congr fun t _ => logit hX hWq hbq hWk hbk b h g s t
  have e' : val_main_v25 (F := Ideal) (ix4 b h g s) = ⊥ := by
    rw [val_main_v25_apply]
    exact KernelIdeal.Chunk.ofBits_neg_inf
  rw [val_main_v26_apply, e, e']
  exact max_eq_right bot_le

/-- THE ATTENDED VALUES, by sequence, position, key head, head of its group, lane. -/
theorem attended (hX : Reals X) (hWq : Reals Wq) (hbq : Reals bq) (hWk : Reals Wk) (hbk : Reals bk)
    (b : Fin 8) (s : Fin 1024) (h g : Fin 4) (d : Fin 128) :
    val_main_v36 (F := Ideal) X Wq bq Wk bk Wv bv (ix5 b s h g d)
      = Softmax.row s (z X Wq bq Wk bk b h g s)
          (fun t => Spec.lin X Wv bv ⟨(b : ℕ) * 1024 + t, by omega⟩ ⟨(h : ℕ) * 128 + d, by omega⟩) := by
  obtain ⟨M, hM⟩ := rowMax hX hWq hbq hWk hbk b h g s
  pointwise [val_main_v36, val_main_v35, val_main_v34, val_main_v33, val_main_v32, val_main_v31, val_main_v30, val_main_v29,
    val_main_v28, val_main_v27, val_main_cst_4]
  simp only [hM, val, logit hX hWq hbq hWk hbk]
  exact Softmax.row_of_exp s _ M _

end Cert.ReferenceIdeal.Math

end
-- ==== Proof.RefResult.lean ====
/- The reference's result is the result of the mathematics: the attended values laid out by token and column, and the output
   linear map. -/
module

public import proofs.«01_k».proof.Proof.RefValue

@[expose] public section

set_option maxRecDepth 16384

noncomputable section

namespace Cert.ReferenceIdeal.Math

open Idealize.ShloMosaic Idealize.ShloMosaic.TcCoe Idealize.SL.Sem
open Cert.ReferenceIdeal Cert.ReferenceIdeal.Read

variable {X : FVec Ideal S8192x2048 .f32} {Wq : FVec Ideal S2048x2048 .f32} {bq : FVec Ideal S2048 .f32}
  {Wk : FVec Ideal S2048x512 .f32} {bk : FVec Ideal S512 .f32} (Wv : FVec Ideal S2048x512 .f32) (bv : FVec Ideal S512 .f32)
  (Wo : FVec Ideal S2048x2048 .f32) (bo : FVec Ideal S2048 .f32)

/-- The attended values by sequence, position, heads and lane are the mathematics' by token and column. -/
theorem row_eq_attend (R : Fin 8192) (C : Fin 2048) (s : Fin 1024) (b : Fin 8) (h g : Fin 4) (d : Fin 128)
    (hb : (b : ℕ) = R / 1024) (hs : (s : ℕ) = R % 1024) (hh : (h : ℕ) = C / 512) (hg : (g : ℕ) = C / 128 % 4) (hd : (d : ℕ) = C % 128) :
    Softmax.row s (z X Wq bq Wk bk b h g s)
        (fun t => Spec.lin X Wv bv ⟨(b : ℕ) * 1024 + t, by omega⟩ ⟨(h : ℕ) * 128 + d, by omega⟩)
      = Spec.attend (Spec.lin X Wq bq) (Spec.lin X Wk bk) (Spec.lin X Wv bv) R C := by
  obtain ⟨s, ps⟩ := s
  obtain ⟨b, pb⟩ := b
  obtain ⟨h, ph⟩ := h
  obtain ⟨d, pd⟩ := d
  dsimp only at hb hs hh hd
  subst hb hs hh hd
  unfold Spec.attend
  refine congrArg (fun f => Softmax.row _ f _) (funext fun t => ?_)
  unfold z
  refine congrArg ((Real.sqrt 128)⁻¹ * ·) (Finset.sum_congr rfl fun x _ => ?_)
  have i1 : (⟨(R : ℕ) / 1024 * 1024 + (R : ℕ) % 1024, by omega⟩ : Fin 8192) = R := Fin.ext (by show (R : ℕ) / 1024 * 1024 + (R : ℕ) % 1024 = R; omega)
  have i2 : (⟨(C : ℕ) / 512 * 512 + (g : ℕ) * 128 + x, by omega⟩ : Fin 2048) = ⟨(C : ℕ) / 128 * 128 + x, by omega⟩ :=
    Fin.ext (by show (C : ℕ) / 512 * 512 + (g : ℕ) * 128 + x = (C : ℕ) / 128 * 128 + x; omega)
  show (Spec.lin X Wq bq ⟨(R : ℕ) / 1024 * 1024 + (R : ℕ) % 1024, _⟩ ⟨(C : ℕ) / 512 * 512 + (g : ℕ) * 128 + x, _⟩).toReal * _ = _
  rw [i1, i2]

/-- The attended values, by token and column. -/
theorem attended_mat (hX : Reals X) (hWq : Reals Wq) (hbq : Reals bq) (hWk : Reals Wk) (hbk : Reals bk) (R : Fin 8192) (C : Fin 2048) :
    val_main_v37 (F := Ideal) X Wq bq Wk bk Wv bv (ix2 R C)
      = Spec.attend (Spec.lin X Wq bq) (Spec.lin X Wk bk) (Spec.lin X Wv bv) R C := by
  pointwise [val_main_v37]
  rw [attended Wv bv hX hWq hbq hWk hbk]
  refine row_eq_attend Wv bv R C _ _ _ _ _ ?_ ?_ ?_ ?_ ?_ <;> dsimp only <;> omega

/-- THE REFERENCE'S RESULT. -/
theorem value (hX : Reals X) (hWq : Reals Wq) (hbq : Reals bq) (hWk : Reals Wk) (hbk : Reals bk) (R : Fin 8192) (E : Fin 2048) :
    val_main_v41 (F := Ideal) X Wq bq Wk bk Wv bv Wo bo (ix2 R E) = Spec.result X Wq bq Wk bk Wv bv Wo bo R E := by
  pointwise [val_main_v41, val_main_v40, val_main_v39, val_main_v38]
  simp only [attended_mat Wv bv hX hWq hbq hWk hbk]
  rfl

end Cert.ReferenceIdeal.Math

end
-- ==== Proof.ProjArrays.lean ====
/- What the two projection kernels leave in their result arrays: the scaled queries, the keys and the values of the first,
   the output projection of the last. -/
module

public import proofs.«01_k».proof.Proof.Gen.KernelIdeal.Frame
public import Idealize.ShloMosaic.Lib.Pipeline.ValueKit

@[expose] public section

set_option maxRecDepth 16384

noncomputable section

namespace Cert.KernelIdeal.Arrays

open Idealize.ShloMosaic Idealize.ShloMosaic.TcCoe Idealize.SL.Sem
open Idealize.ShloMosaic.Pipeline (Dat)
open Cert.KernelIdeal Cert.KernelIdeal.Gen

/-- The queries' scale: `1 / √128`, times `1 / log 2` for the exponential in base two. -/
def c0 : ℝ := (Real.sqrt 128)⁻¹ * (Real.log 2)⁻¹

theorem named_c0 : Named.named (F := Ideal) κ "scale_log2e" (φ := .f32) 0x3E0293EE#32 = (c0 : EReal) :=
  IdealRules.named_const.ideal_named_scalar _ _ _ _ rfl

/-- Element `(R, C)` of the joint projection: a token against a column of the weights, plus the bias. -/
def proj (X : FVec Ideal S8192x2048 .f32) (W : FVec Ideal S2048x3072 .bf16) (b : FVec Ideal S1x3072 .f32)
    (R : Fin 8192) (C : Fin 3072) : EReal := (∑ k : Fin 2048, X (ix2 R k) * W (ix2 k C)) + b (ix2 0 C)

/-- Element `(R, C)` of the output projection. -/
def outProj (O : FVec Ideal S8192x2048 .bf16) (W : FVec Ideal S2048x2048 .bf16) (b : FVec Ideal S1x2048 .f32)
    (R : Fin 8192) (C : Fin 2048) : EReal := (∑ k : Fin 2048, O (ix2 R k) * W (ix2 k C)) + b (ix2 0 C)

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ t.val < 8 :=
  (by decide +kernel : ∀ t : Fin grid0.N, _)

theorem idx2 : ∀ t : Fin cfg2.N, win2_0.index t = ![t.val, 0] ∧ win2_1.index t = ![0, 0] ∧ win2_2.index t = ![0, 0]
    ∧ win2_3.index t = ![t.val, 0] ∧ t.val < 8 :=
  (by decide +kernel : ∀ t : Fin grid2.N, _)

/-- THE QUERIES: columns 0 to 2047 of the projection, scaled. -/
theorem arr0_3 (c : Dev nD) : (dat0 V c).arrAt 3 cfg0.N = fun j : S8192x2048.Idx =>
    proj (V c main_arg0) (V c main_v1) (V c main_v3) (j 0) ⟨j 1, by have h : (j 1 : ℕ) < 2048 := (j 1).isLt; omega⟩ * (c0 : EReal) := by
  refine (dat0 V c).arrAt_eq_of_covers 3 _ (by decide +kernel) fun t hf y => ?_
  blk_simp
  rw [after0_3]; frame_out
  pointwise [k0_pay2, k0_pay1, proj]
  refine congrArg₂ (· * ·) ?_ named_c0
  blk_point [iblk0, idx0 t]

/-- THE KEYS: columns 2048 to 2559 of the projection. -/
theorem arr0_4 (c : Dev nD) : (dat0 V c).arrAt 4 cfg0.N = fun j : S8192x512.Idx =>
    proj (V c main_arg0) (V c main_v1) (V c main_v3) (j 0) ⟨2048 + j 1, by have h : (j 1 : ℕ) < 512 := (j 1).isLt; omega⟩ := by
  refine (dat0 V c).arrAt_eq_of_covers 4 _ (by decide +kernel) fun t hf y => ?_
  blk_simp
  rw [after0_4]; frame_out
  pointwise [k0_pay4, k0_pay3, k0_pay1, proj]
  blk_point [iblk0, idx0 t]

/-- THE VALUES: columns 2560 to 3071 of the projection. -/
theorem arr0_5 (c : Dev nD) : (dat0 V c).arrAt 5 cfg0.N = fun j : S8192x512.Idx =>
    proj (V c main_arg0) (V c main_v1) (V c main_v3) (j 0) ⟨2560 + j 1, by have h : (j 1 : ℕ) < 512 := (j 1).isLt; omega⟩ := by
  refine (dat0 V c).arrAt_eq_of_covers 5 _ (by decide +kernel) fun t hf y => ?_
  blk_simp
  rw [after0_5]; frame_out
  pointwise [k0_pay5, k0_pay3, k0_pay1, proj]
  blk_point [iblk0, idx0 t]

/-- THE RESULT: the attended tokens against the output weights, plus the output bias. -/
theorem arr2_3 (c : Dev nD) : (dat2 V c).arrAt 3 cfg2.N = fun j : S8192x2048.Idx =>
    outProj (V c main_v5) (V c main_v6) (V c main_v7) (j 0) (j 1) := by
  refine (dat2 V c).arrAt_eq_of_covers 3 _ (by decide +kernel) fun t hf y => ?_
  blk_simp
  rw [after2_3]; frame_out
  pointwise [k2_pay1, outProj]
  blk_point [iblk2, idx2 t]

end Cert.KernelIdeal.Arrays

end
-- ==== Proof.HostArrays.lean ====
/- What the host operations hand to the two projection kernels: the joint weights and the joint bias, column by column the
   three weights and the three biases; the output weights and the output bias as they are. With them the joint projection
   is, column range by column range, one of the three linear maps. -/
module

public import proofs.«01_k».proof.Proof.ProjArrays
public import proofs.«01_k».proof.Proof.Spec
public import Idealize.ShloMosaic.Lib.Claim

@[expose] public section

set_option maxRecDepth 16384

noncomputable section

namespace Cert.KernelIdeal.Arrays

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The tokens. -/
abbrev aX (c : Dev nD) : FVec Ideal S8192x2048 .f32 := m ((c : Thread nD τ).loc main_arg0)
/-- The query weights and bias. -/
abbrev aWq (c : Dev nD) : FVec Ideal S2048x2048 .f32 := m ((c : Thread nD τ).loc main_arg1)
abbrev abq (c : Dev nD) : FVec Ideal S2048 .f32 := m ((c : Thread nD τ).loc main_arg2)
/-- The key weights and bias. -/
abbrev aWk (c : Dev nD) : FVec Ideal S2048x512 .f32 := m ((c : Thread nD τ).loc main_arg3)
abbrev abk (c : Dev nD) : FVec Ideal S512 .f32 := m ((c : Thread nD τ).loc main_arg4)
/-- The value weights and bias. -/
abbrev aWv (c : Dev nD) : FVec Ideal S2048x512 .f32 := m ((c : Thread nD τ).loc main_arg5)
abbrev abv (c : Dev nD) : FVec Ideal S512 .f32 := m ((c : Thread nD τ).loc main_arg6)
/-- The output weights and bias. -/
abbrev aWo (c : Dev nD) : FVec Ideal S2048x2048 .f32 := m ((c : Thread nD τ).loc main_arg7)
abbrev abo (c : Dev nD) : FVec Ideal S2048 .f32 := m ((c : Thread nD τ).loc main_arg8)

/-- The joint weights, read at a column. -/
theorem weights (c : Dev nD) (k : Fin 2048) (C : Fin 3072) :
    (V1 m ρ c main_v1 : FVec Ideal S2048x3072 .bf16) (ix2 k C)
      = if h : (C : ℕ) < 2048 then aWq m c (ix2 k ⟨C, h⟩)
        else if h' : (C : ℕ) - 2048 < 512 then aWk m c (ix2 k ⟨(C : ℕ) - 2048, h'⟩)
        else aWv m c (ix2 k ⟨(C : ℕ) - 2048 - 512, by omega⟩) := by
  dsimp only [V1, W1]
  entry_read
  pointwise

/-- The joint bias, read at a column. -/
theorem bias (c : Dev nD) (C : Fin 3072) :
    (V1 m ρ c main_v3 : FVec Ideal S1x3072 .f32) (ix2 0 C)
      = if h : (C : ℕ) < 2048 then abq m c (ix1 ⟨C, h⟩)
        else if h' : (C : ℕ) - 2048 < 512 then abk m c (ix1 ⟨(C : ℕ) - 2048, h'⟩)
        else abv m c (ix1 ⟨(C : ℕ) - 2048 - 512, by omega⟩) := by
  dsimp only [V1, W1]
  entry_read
  pointwise

/-- The output weights. -/
theorem outWeights (c : Dev nD) : (V4 m ρ c main_v6 : FVec Ideal S2048x2048 .bf16) = aWo m c := by
  funext i
  dsimp only [V4, W4]
  entry_read
  pointwise
  exact congrFun (W3_args m ρ c main_arg7 (by decide)) i

/-- The output bias. -/
theorem outBias (c : Dev nD) (C : Fin 2048) : (V4 m ρ c main_v7 : FVec Ideal S1x2048 .f32) (ix2 0 C) = abo m c (ix1 C) := by
  dsimp only [V4, W4]
  entry_read
  pointwise
  exact congrFun (W3_args m ρ c main_arg8 (by decide)) (ix1 C)

/-- The first kernel reads the tokens as launched. -/
theorem tokens (c : Dev nD) : (V1 m ρ c main_arg0 : FVec Ideal S8192x2048 .f32) = aX m c := W1_args m ρ c main_arg0 (by decide)

/-- Columns 0 to 2047 of the joint projection: the query map. -/
theorem proj_q (c : Dev nD) (R : Fin 8192) (C : Fin 2048) (C' : Fin 3072) (h : (C' : ℕ) = C) :
    proj (V1 m ρ c main_arg0) (V1 m ρ c main_v1) (V1 m ρ c main_v3) R C' = Spec.lin (aX m c) (aWq m c) (abq m c) R C := by
  have h1 : (C' : ℕ) < 2048 := by omega
  have e : (⟨(C' : ℕ), h1⟩ : Fin 2048) = C := Fin.ext h
  unfold proj Spec.lin
  rw [bias, dif_pos h1, e]
  refine congrArg (· + _) (Finset.sum_congr rfl fun k _ => ?_)
  rw [weights, dif_pos h1, e, tokens]

/-- Columns 2048 to 2559: the key map. -/
theorem proj_k (c : Dev nD) (R : Fin 8192) (C : Fin 512) (C' : Fin 3072) (h : (C' : ℕ) = 2048 + C) :
    proj (V1 m ρ c main_arg0) (V1 m ρ c main_v1) (V1 m ρ c main_v3) R C' = Spec.lin (aX m c) (aWk m c) (abk m c) R C := by
  have h1 : ¬ (C' : ℕ) < 2048 := by omega
  have h2 : (C' : ℕ) - 2048 < 512 := by omega
  have e : (⟨(C' : ℕ) - 2048, h2⟩ : Fin 512) = C := Fin.ext (by simp only; omega)
  unfold proj Spec.lin
  rw [bias, dif_neg h1, dif_pos h2, e]
  refine congrArg (· + _) (Finset.sum_congr rfl fun k _ => ?_)
  rw [weights, dif_neg h1, dif_pos h2, e, tokens]

/-- Columns 2560 to 3071: the value map. -/
theorem proj_v (c : Dev nD) (R : Fin 8192) (C : Fin 512) (C' : Fin 3072) (h : (C' : ℕ) = 2560 + C) :
    proj (V1 m ρ c main_arg0) (V1 m ρ c main_v1) (V1 m ρ c main_v3) R C' = Spec.lin (aX m c) (aWv m c) (abv m c) R C := by
  have h1 : ¬ (C' : ℕ) < 2048 := by omega
  have h2 : ¬ (C' : ℕ) - 2048 < 512 := by omega
  have e : (⟨(C' : ℕ) - 2048 - 512, by omega⟩ : Fin 512) = C := Fin.ext (by simp only; omega)
  unfold proj Spec.lin
  rw [bias, dif_neg h1, dif_neg h2, e]
  refine congrArg (· + _) (Finset.sum_congr rfl fun k _ => ?_)
  rw [weights, dif_neg h1, dif_neg h2, e, tokens]

end Cert.KernelIdeal.Arrays

end
-- ==== Proof.AttnBlock.lean ====
/- One grid point of the attention kernel (one sequence, one key head): the twelve stored pieces, three row chunks for
   each of the four query heads of the group, make one block, and every element of it is a row of causal attention. -/
module

public import proofs.«01_k».proof.Proof.Gen.KernelIdeal.Frame
public import proofs.«01_k».proof.Proof.Chunk

@[expose] public section

set_option maxRecDepth 16384

noncomputable section

namespace Cert.KernelIdeal.Chunk

open Idealize.ShloMosaic Idealize.ShloMosaic.TcCoe Idealize.SL.Sem
open Cert.KernelIdeal Cert.KernelIdeal.Gen

/-- Element `(i, c)` of the block of a grid point, `c` running over four heads of 128 lanes: row `i` of causal attention
    of the head `c / 128`, lane `c % 128`. -/
def blockAt (q : FVec Ideal S1024x512 .bf16) (k v : FVec Ideal S1024x128 .bf16) (i : Fin 1024) (c : Fin 512) : EReal :=
  Softmax.row i
    (fun t => Real.log 2 * ∑ x : Fin 128, (q (ix2 i ⟨(c : ℕ) / 128 * 128 + x, by omega⟩)).toReal * (k (ix2 t x)).toReal)
    (fun t => v (ix2 t ⟨(c : ℕ) % 128, by omega⟩))

variable (Q : FVec Ideal S1024x512 .bf16) (k v : FVec Ideal S1024x128 .bf16)

/-- `q` is the tile of `Q` whose first element is `(r0, o)`. -/
def Tile {n : ℕ} (q : (⟨2, ![n, 128]⟩ : Shape).Idx → EReal) (r0 o : ℕ) : Prop :=
  ∀ (x : (⟨2, ![n, 128]⟩ : Shape).Idx) (i : Fin 1024) (c : Fin 512), (i : ℕ) = r0 + x 0 → (c : ℕ) = o + x 1 → q x = Q (ix2 i c)

variable {Q} in
/-- A tile of real numbers holds real numbers. -/
theorem Tile.finite {n : ℕ} {q : (⟨2, ![n, 128]⟩ : Shape).Idx → EReal} {r0 o : ℕ} (hq : Tile Q q r0 o) (hQ : Finite Q)
    (hr : r0 + n ≤ 1024) (ho : o + 128 ≤ 512) (x : (⟨2, ![n, 128]⟩ : Shape).Idx) : q x = ((q x).toReal : EReal) := by
  have h0 : (x 0 : ℕ) < n := (x 0).isLt
  have h1 : (x 1 : ℕ) < 128 := (x 1).isLt
  rw [hq x ⟨r0 + x 0, by omega⟩ ⟨o + x 1, by omega⟩ rfl rfl]
  exact hQ _

variable {Q} in
/-- A row of a chunk is a row of the block. -/
theorem Tile.row {n : ℕ} {q : (⟨2, ![n, 128]⟩ : Shape).Idx → EReal} {r0 o : ℕ} (hq : Tile Q q r0 o) (ho : o % 128 = 0)
    (r : Fin n) (d : Fin 128) (i : Fin 1024) (c : Fin 512) (hi : (i : ℕ) = r0 + r) (hc : (c : ℕ) = o + d) (j : Fin 1024) (hj : j = i) :
    Softmax.row j (fun t => Real.log 2 * score q k r t) (fun t => v (ix2 t d)) = blockAt Q k v i c := by
  subst hj
  unfold blockAt score
  have e1 : (⟨(c : ℕ) % 128, by omega⟩ : Fin 128) = d := Fin.ext (by simp only; omega)
  rw [e1]
  congr 1
  funext t
  congr 1
  refine Finset.sum_congr rfl fun x _ => ?_
  rw [hq (ix2 r x) j ⟨(c : ℕ) / 128 * 128 + x, by omega⟩ hi (by show (c : ℕ) / 128 * 128 + (x : ℕ) = o + (x : ℕ); omega)]

/-- The pieces of rows 0 to 511. -/
theorem piece0 (hQ : Finite Q) (hk : Finite k) (q : FVec Ideal S512x128 .bf16) (o : ℕ) (ho : o % 128 = 0) (hb : o + 128 ≤ 512)
    (hq : Tile Q q 0 o) (x : S512x128.Idx) (i : Fin 1024) (c : Fin 512) (hi : (i : ℕ) = 0 + x 0) (hc : (c : ℕ) = o + x 1) :
    k1_pay6 (F := Ideal) k v q x = blockAt Q k v i c := by
  idx_vars x
  rw [chunk0 q k v (hq.finite hQ (by decide) hb) hk]
  exact hq.row k v ho _ _ i c hi hc _ (Fin.ext (by simpa using hi.symm))

/-- The pieces of rows 512 to 767. -/
theorem piece1 (hQ : Finite Q) (hk : Finite k) (q : FVec Ideal S256x128 .bf16) (o : ℕ) (ho : o % 128 = 0) (hb : o + 128 ≤ 512)
    (hq : Tile Q q 512 o) (x : S256x128.Idx) (i : Fin 1024) (c : Fin 512) (hi : (i : ℕ) = 512 + x 0) (hc : (c : ℕ) = o + x 1) :
    k1_pay22 (F := Ideal) (k1_pay2 k) (k1_pay3 v) k1_pay5 q x = blockAt Q k v i c := by
  idx_vars x
  rw [chunk1 q k v (hq.finite hQ (by decide) hb) hk]
  exact hq.row k v ho _ _ i c hi hc _ (Fin.ext hi.symm)

/-- The pieces of rows 768 to 1023. -/
theorem piece2 (hQ : Finite Q) (hk : Finite k) (q : FVec Ideal S256x128 .bf16) (o : ℕ) (ho : o % 128 = 0) (hb : o + 128 ≤ 512)
    (hq : Tile Q q 768 o) (x : S256x128.Idx) (i : Fin 1024) (c : Fin 512) (hi : (i : ℕ) = 768 + x 0) (hc : (c : ℕ) = o + x 1) :
    k1_pay40 (F := Ideal) (k1_pay2 k) (k1_pay3 v) k1_pay5 q x = blockAt Q k v i c := by
  idx_vars x
  rw [chunk2 q k v (hq.finite hQ (by decide) hb) hk]
  exact hq.row k v ho _ _ i c hi hc _ (Fin.ext hi.symm)

/-- A load of a rectangle of 128 lanes is a tile. -/
theorem tile_ld (n r0 o : ℕ) (inb) (q : (⟨2, ![n, 128]⟩ : Shape).Idx → EReal)
    (hq : ∀ x, q x = Q ((Rect.unit (s := S1024x512) ![r0, o] ![n, 128] inb).emb x)) : Tile Q q r0 o := by
  intro x i c hi hc
  rw [hq x]
  congr 1
  refine funext fun a => Fin.ext ?_
  match a with
  | ⟨0, _⟩ => show r0 + 1 * (x 0 : ℕ) = (i : ℕ); omega
  | ⟨1, _⟩ => show o + 1 * (x 1 : ℕ) = (c : ℕ); omega

/-- WHAT ONE GRID POINT LEAVES in the output block, over real queries and keys. -/
theorem block (V : (c : Dev nD) → (b : Ref sig .tc) → Buf (Elt Ideal) ((c : Thread nD τ).loc b)) (c : Dev nD) (t : Fin cfg1.N)
    (hQ : Finite (iblk1 V c 0 t)) (hk : Finite (iblk1 V c 1 t)) (y : S1024x512.Idx) :
    outsAt1 V c t y = blockAt (iblk1 V c 0 t) (iblk1 V c 1 t) (iblk1 V c 2 t) (y 0) (y 1) := by
  let G : Vec Ideal S1024x512 .bf16 := fun y => blockAt (iblk1 V c 0 t) (iblk1 V c 1 t) (iblk1 V c 2 t) (y 0) (y 1)
  show _ = G y
  unfold outsAt1
  frame_out
  have e : ∀ a b : ℕ, a + 1 * b = a + b := fun a b => by omega
  refine View.canon_apply_of_pieces G _ ?_ y (View.cover_of_tiledBy _ ![256, 128] (by sl_kernel_rfl) y)
  refine List.forall_mem_cons.2 ⟨fun x => piece2 _ _ _ hQ hk _ 384 (by decide) (by decide) (tile_ld _ 256 768 384 _ _ fun _ => rfl) x _ _ (e _ _) (e _ _), ?_⟩
  refine List.forall_mem_cons.2 ⟨fun x => piece2 _ _ _ hQ hk _ 256 (by decide) (by decide) (tile_ld _ 256 768 256 _ _ fun _ => rfl) x _ _ (e _ _) (e _ _), ?_⟩
  refine List.forall_mem_cons.2 ⟨fun x => piece2 _ _ _ hQ hk _ 128 (by decide) (by decide) (tile_ld _ 256 768 128 _ _ fun _ => rfl) x _ _ (e _ _) (e _ _), ?_⟩
  refine List.forall_mem_cons.2 ⟨fun x => piece2 _ _ _ hQ hk _ 0 (by decide) (by decide) (tile_ld _ 256 768 0 _ _ fun _ => rfl) x _ _ (e _ _) (e _ _), ?_⟩
  refine List.forall_mem_cons.2 ⟨fun x => piece1 _ _ _ hQ hk _ 384 (by decide) (by decide) (tile_ld _ 256 512 384 _ _ fun _ => rfl) x _ _ (e _ _) (e _ _), ?_⟩
  refine List.forall_mem_cons.2 ⟨fun x => piece1 _ _ _ hQ hk _ 256 (by decide) (by decide) (tile_ld _ 256 512 256 _ _ fun _ => rfl) x _ _ (e _ _) (e _ _), ?_⟩
  refine List.forall_mem_cons.2 ⟨fun x => piece1 _ _ _ hQ hk _ 128 (by decide) (by decide) (tile_ld _ 256 512 128 _ _ fun _ => rfl) x _ _ (e _ _) (e _ _), ?_⟩
  refine List.forall_mem_cons.2 ⟨fun x => piece1 _ _ _ hQ hk _ 0 (by decide) (by decide) (tile_ld _ 256 512 0 _ _ fun _ => rfl) x _ _ (e _ _) (e _ _), ?_⟩
  refine List.forall_mem_cons.2 ⟨fun x => piece0 _ _ _ hQ hk _ 384 (by decide) (by decide) (tile_ld _ 512 0 384 _ _ fun _ => rfl) x _ _ (e _ _) (e _ _), ?_⟩
  refine List.forall_mem_cons.2 ⟨fun x => piece0 _ _ _ hQ hk _ 256 (by decide) (by decide) (tile_ld _ 512 0 256 _ _ fun _ => rfl) x _ _ (e _ _) (e _ _), ?_⟩
  refine List.forall_mem_cons.2 ⟨fun x => piece0 _ _ _ hQ hk _ 128 (by decide) (by decide) (tile_ld _ 512 0 128 _ _ fun _ => rfl) x _ _ (e _ _) (e _ _), ?_⟩
  refine List.forall_mem_cons.2 ⟨fun x => piece0 _ _ _ hQ hk _ 0 (by decide) (by decide) (tile_ld _ 512 0 0 _ _ fun _ => rfl) x _ _ (e _ _) (e _ _), ?_⟩
  intro p hp
  cases hp

end Cert.KernelIdeal.Chunk

end
-- ==== Proof.AttnArray.lean ====
/- What the attention kernel leaves in its result array: every element is a row of causal attention of its sequence and
   head, read from the three arrays of queries, keys and values. -/
module

public import proofs.«01_k».proof.Proof.AttnBlock
public import Idealize.ShloMosaic.Lib.Pipeline.ValueKit

@[expose] public section

set_option maxRecDepth 16384

noncomputable section

namespace Cert.KernelIdeal.Arrays

open Idealize.ShloMosaic Idealize.ShloMosaic.TcCoe Idealize.SL.Sem
open Idealize.ShloMosaic.Pipeline (Dat)
open Cert.KernelIdeal Cert.KernelIdeal.Gen Cert.KernelIdeal.Chunk

/-- Element `(R, C)` of the attention of packed sequences: token `R` is position `R % 1024` of sequence `R / 1024`,
    column `C` is lane `C % 128` of query head `C / 128`, which attends with key head `C / 512`. -/
def attn (Q : FVec Ideal S8192x2048 .bf16) (K Vv : FVec Ideal S8192x512 .bf16) (R : Fin 8192) (C : Fin 2048) : EReal :=
  Softmax.row (⟨(R : ℕ) % 1024, by omega⟩ : Fin 1024)
    (fun t => Real.log 2 * ∑ x : Fin 128, (Q (ix2 R ⟨(C : ℕ) / 128 * 128 + x, by omega⟩)).toReal
      * (K (ix2 ⟨(R : ℕ) / 1024 * 1024 + t, by omega⟩ ⟨(C : ℕ) / 512 * 128 + x, by omega⟩)).toReal)
    (fun t => Vv (ix2 ⟨(R : ℕ) / 1024 * 1024 + t, by omega⟩ ⟨(C : ℕ) / 512 * 128 + (C : ℕ) % 128, by omega⟩))

/-- Equal positions, equal logits and equal values make equal rows. -/
theorem row_congr {n : ℕ} {i i' : Fin n} {z z' : Fin n → ℝ} {v v' : Fin n → EReal} (hi : i = i') (hz : ∀ t, z t = z' t)
    (hv : ∀ t, v t = v' t) : Softmax.row i z v = Softmax.row i' z' v' := by
  rw [hi, funext hz, funext hv]

variable (V : (c : Dev nD) → (b : Ref sig .tc) → Buf (Elt Ideal) ((c : Thread nD τ).loc b))

theorem idx1 : ∀ t : Fin cfg1.N, win1_0.index t = ![t.val / 4, t.val % 4] ∧ win1_1.index t = ![t.val / 4, t.val % 4]
    ∧ win1_2.index t = ![t.val / 4, t.val % 4] ∧ win1_3.index t = ![t.val / 4, t.val % 4] ∧ t.val / 4 < 8 :=
  (by decide +kernel : ∀ t : Fin grid1.N, _)

/-- A block of real queries holds real numbers. -/
theorem finite_q (c : Dev nD) (t : Fin cfg1.N) (h : Finite (show FVec Ideal S8192x2048 .bf16 from V c main_v4_0)) :
    Finite (iblk1 V c 0 t) := fun i => h (((cfg1.win 0).blk t).view.emb i)

/-- A block of real keys holds real numbers. -/
theorem finite_k (c : Dev nD) (t : Fin cfg1.N) (h : Finite (show FVec Ideal S8192x512 .bf16 from V c main_v4_1)) :
    Finite (iblk1 V c 1 t) := fun i => h (((cfg1.win 1).blk t).view.emb i)

/-- THE ATTENTION ARRAY, over real queries and keys. -/
theorem arr1 (c : Dev nD) (hq : Finite (show FVec Ideal S8192x2048 .bf16 from V c main_v4_0))
    (hk : Finite (show FVec Ideal S8192x512 .bf16 from V c main_v4_1)) :
    (dat1 V c).arrAt 3 cfg1.N = fun j : S8192x2048.Idx => attn (V c main_v4_0) (V c main_v4_1) (V c main_v4_2) (j 0) (j 1) := by
  refine (dat1 V c).arrAt_eq_of_covers 3 _ (by decide +kernel) fun t hf y => ?_
  blk_simp
  rw [after1_3, block V c t (finite_q V c t hq) (finite_k V c t hk)]
  unfold blockAt attn
  blk_simp [iblk1, idx1 t]
  idx_bounds
  refine row_congr (Fin.ext (by simp only; omega)) (fun s => ?_) (fun s => ?_)
  · refine congrArg (Real.log 2 * ·) (Finset.sum_congr rfl fun x _ => congrArg₂ (· * ·) (congrArg EReal.toReal ?_) (congrArg EReal.toReal ?_))
    · blk_ext [idx1 t]
    · blk_ext [idx1 t]
  · blk_ext [idx1 t]

end Cert.KernelIdeal.Arrays

end
-- ==== Proof.KernelValue.lean ====
/- What the kernel's three launches leave in the result: over real tokens, real query and key weights and biases, the
   result of the mathematics. -/
module

public import proofs.«01_k».proof.Proof.HostArrays
public import proofs.«01_k».proof.Proof.AttnArray

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Chunk

variable (m : (ℓ : Loc nD τ sig) → Buf (Elt Ideal) ℓ) (ρ : Dev nD → PrngReg)

/-- The queries the first launch leaves: the query map, scaled. -/
theorem queries (c : Dev nD) (R : Fin 8192) (C : Fin 2048) :
    (V2 m ρ c main_v4_0 : FVec Ideal S8192x2048 .bf16) (ix2 R C) = Spec.lin (aX m c) (aWq m c) (abq m c) R C * (c0 : EReal) :=
  (congrFun ((W2_arr m ρ c 3).trans (arr0_3 (V1 m ρ) c)) (ix2 R C)).trans
    (congrArg (· * (c0 : EReal)) (proj_q m ρ c R C _ rfl))

/-- The keys. -/
theorem keys (c : Dev nD) (R : Fin 8192) (C : Fin 512) :
    (V2 m ρ c main_v4_1 : FVec Ideal S8192x512 .bf16) (ix2 R C) = Spec.lin (aX m c) (aWk m c) (abk m c) R C :=
  (congrFun ((W2_arr m ρ c 4).trans (arr0_4 (V1 m ρ) c)) (ix2 R C)).trans (proj_k m ρ c R C _ rfl)

/-- The values. -/
theorem values (c : Dev nD) (R : Fin 8192) (C : Fin 512) :
    (V2 m ρ c main_v4_2 : FVec Ideal S8192x512 .bf16) (ix2 R C) = Spec.lin (aX m c) (aWv m c) (abv m c) R C :=
  (congrFun ((W2_arr m ρ c 5).trans (arr0_5 (V1 m ρ) c)) (ix2 R C)).trans (proj_v m ρ c R C _ rfl)

/-- The scale in base two is the scale in base e over `log 2`. -/
theorem log_two_mul_c0 : Real.log 2 * c0 = (Real.sqrt 128)⁻¹ := by
  have h : Real.log 2 ≠ 0 := Real.log_ne_zero_of_pos_of_ne_one (by norm_num) (by norm_num)
  unfold c0
  field_simp

/-- The inputs of the logits are real numbers. -/
structure Reals (c : Dev nD) : Prop where
  X : Finite (aX m c)
  Wq : Finite (aWq m c)
  bq : Finite (abq m c)
  Wk : Finite (aWk m c)
  bk : Finite (abk m c)

/-- Scaled queries in base two and keys give the logits of the mathematics. -/
theorem attn_queries (c : Dev nD) (h : Reals m c) (R : Fin 8192) (C : Fin 2048) :
    attn (V2 m ρ c main_v4_0) (V2 m ρ c main_v4_1) (V2 m ρ c main_v4_2) R C
      = Spec.attend (Spec.lin (aX m c) (aWq m c) (abq m c)) (Spec.lin (aX m c) (aWk m c) (abk m c))
          (Spec.lin (aX m c) (aWv m c) (abv m c)) R C := by
  unfold attn Spec.attend
  refine row_congr rfl (fun t => ?_) (fun t => values m ρ c _ _)
  rw [← log_two_mul_c0, mul_assoc]
  refine congrArg (Real.log 2 * ·) ?_
  rw [Finset.mul_sum]
  refine Finset.sum_congr rfl fun x _ => ?_
  rw [queries, keys, EReal.toReal_mul, EReal.toReal_coe]
  ring

/-- The queries are real numbers. -/
theorem queries_real (c : Dev nD) (h : Reals m c) : Finite (show FVec Ideal S8192x2048 .bf16 from V2 m ρ c main_v4_0) := by
  intro i
  idx_vars i
  show (V2 m ρ c main_v4_0 : FVec Ideal S8192x2048 .bf16) _ = (((V2 m ρ c main_v4_0 : FVec Ideal S8192x2048 .bf16) _).toReal : EReal)
  rw [queries, Spec.lin_real h.X h.Wq h.bq, ← EReal.coe_mul, EReal.toReal_coe]

/-- The keys are real numbers. -/
theorem keys_real (c : Dev nD) (h : Reals m c) : Finite (show FVec Ideal S8192x512 .bf16 from V2 m ρ c main_v4_1) := by
  intro i
  idx_vars i
  show (V2 m ρ c main_v4_1 : FVec Ideal S8192x512 .bf16) _ = (((V2 m ρ c main_v4_1 : FVec Ideal S8192x512 .bf16) _).toReal : EReal)
  rw [keys]
  exact Spec.lin_real h.X h.Wk h.bk _ _

/-- What the attention launch leaves. -/
theorem attended (c : Dev nD) (h : Reals m c) (R : Fin 8192) (C : Fin 2048) :
    (V4 m ρ c main_v5 : FVec Ideal S8192x2048 .bf16) (ix2 R C)
      = Spec.attend (Spec.lin (aX m c) (aWq m c) (abq m c)) (Spec.lin (aX m c) (aWk m c) (abk m c))
          (Spec.lin (aX m c) (aWv m c) (abv m c)) R C :=
  (congrFun ((W4_of m ρ c main_v5 (by decide)).trans
      ((W3_arr m ρ c 3).trans (arr1 (V2 m ρ) c (queries_real m ρ c h) (keys_real m ρ c h)))) (ix2 R C)).trans
    (attn_queries m ρ c h R C)

/-- THE RESULT of the kernel. -/
theorem value (c : Dev nD) (h : Reals m c) (R : Fin 8192) (E : Fin 2048) :
    (W5 m ρ c (Proc.devRef .tc main_v8) : FVec Ideal S8192x2048 .f32) (ix2 R E)
      = Spec.result (aX m c) (aWq m c) (abq m c) (aWk m c) (abk m c) (aWv m c) (abv m c) (aWo m c) (abo m c) R E := by
  refine (congrFun ((W5_arr m ρ c 3).trans (arr2_3 (V4 m ρ) c)) (ix2 R E)).trans ?_
  show outProj (V4 m ρ c main_v5) (V4 m ρ c main_v6) (V4 m ρ c main_v7) R E = _
  unfold outProj Spec.result
  rw [outBias, outWeights]
  exact congrArg (· + _) (Finset.sum_congr rfl fun k _ => congrArg (· * _) (attended m ρ c h _ _))

end Cert.KernelIdeal.Arrays

end
-- ==== Proof.Finite.lean ====
/- The precondition: the arrays it names hold real numbers. -/
module

public import proofs.«01_k».proof.Defs
public import proofs.«01_k».proof.Proof.Gen.Pre_finite
public import proofs.«01_k».proof.Proof.KernelValue

@[expose] public section

set_option maxRecDepth 16384

noncomputable section

namespace Cert.KernelIdeal.Arrays

open Idealize.ShloMosaic Idealize.ShloMosaic.TcCoe Idealize.SL.Sem
open Cert.KernelIdeal

/-- A number whose absolute value is below +∞ is real. -/
theorem real_of_abs_lt (x : EReal) (h : Ideal.cmp .olt (max x (-x)) (Ideal.ofBits .f32 0x7F800000#32) = 1#1) :
    x = (x.toReal : EReal) := by
  have e : Ideal.ofBits .f32 0x7F800000#32 = ⊤ := by simp [Ideal.ofBits, Ideal.ieee]
  rw [e] at h
  have hlt : max x (-x) < ⊤ := by
    by_contra hn
    simp [Ideal.cmp, hn] at h
  have h2 := (max_lt_iff.1 hlt).2
  refine (EReal.coe_toReal (max_lt_iff.1 hlt).1.ne ?_).symm
  rintro rfl
  simp at h2

/-- An array whose comparison with +∞ is all ones holds real numbers. -/
theorem finite_of_all {S : Shape} (x : FVec Ideal S .f32) (hb : (⟨0, ![]⟩ : Shape).BroadcastsInDim S ![])
    (h : cmpf .olt (Host.absf x) (broadcastInDim S ![] hb (constant (F := Ideal) ⟨0, ![]⟩ .f32 0x7F800000#32)) = fun _ => 1#1) :
    Chunk.Finite x := fun i => real_of_abs_lt (x i) (congrFun h i)

/-- THE PRECONDITION: tokens, query and key weights and biases are real. -/
theorem reals (m : (ℓ : Loc nD τ sig) → Buf (Elt Ideal) ℓ) (h : Cert.Pre_KernelIdeal_finite m) (c : Dev nD) : Reals m c :=
  { X := finite_of_all _ _ (h c).1
    Wq := finite_of_all _ _ (h c).2.1
    bq := finite_of_all _ _ (h c).2.2.1
    Wk := finite_of_all _ _ (h c).2.2.2.1
    bk := finite_of_all _ _ (h c).2.2.2.2 }

end Cert.KernelIdeal.Arrays

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.KernelRun
public import proofs.«01_k».proof.Proof.RefResult
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.SL.Sem

/-- The reference's run leaves its arguments, and it has no counter. -/
theorem quiescent_reference : Cert.quiescent_ReferenceIdeal := fun m g _ =>
  (θ_run ReferenceIdeal.defs _ _).mono (fun r h => ⟨fun c => (h c).2, sem_eq_zero_of_no_sems (by decide) r.2⟩)
    (ReferenceIdeal.Value.run (F := Ideal) m g)

/-- THE RESULTS AGREE: from equal arguments that satisfy the precondition, the kernel's result array is the reference's. -/
theorem results (m : (ℓ : Loc KernelIdeal.nD KernelIdeal.τ KernelIdeal.sig) → Buf (Elt Ideal) ℓ) (g : Dev KernelIdeal.nD → PrngReg)
    (h : Cert.Pre_KernelIdeal_finite m) (c : Dev KernelIdeal.nD) :
    ReferenceIdeal.Read.val_main_v41 (F := Ideal) (KernelIdeal.Arrays.aX m c) (KernelIdeal.Arrays.aWq m c) (KernelIdeal.Arrays.abq m c)
        (KernelIdeal.Arrays.aWk m c) (KernelIdeal.Arrays.abk m c) (KernelIdeal.Arrays.aWv m c) (KernelIdeal.Arrays.abv m c)
        (KernelIdeal.Arrays.aWo m c) (KernelIdeal.Arrays.abo m c)
      = (KernelIdeal.Gen.W5 m g c (Proc.devRef .tc KernelIdeal.main_v8) : FVec Ideal ReferenceIdeal.S8192x2048 .f32) := by
  have r := KernelIdeal.Arrays.reals m h c
  funext i
  idx_vars i
  exact (ReferenceIdeal.Math.value _ _ _ _ r.X r.Wq r.bq r.Wk r.bk _ _).trans (KernelIdeal.Arrays.value m g c r _ _).symm

/-- Over the extended reals the kernel and the reference compute the same function. -/
theorem algebraic : Cert.algebraic_KernelIdeal_ReferenceIdeal_pre_finite := by
  intro m g m' g' hpre hagree
  refine ⟨fun c => KernelIdeal.Gen.W5 m g c (Proc.devRef .tc KernelIdeal.main_v8), KernelIdeal.Arrays.run m g, ?_⟩
  refine (θ_run ReferenceIdeal.defs _ _).mono (fun r h c => ⟨(h c).1.trans ?_, (h c).2⟩) (ReferenceIdeal.Value.run (F := Ideal) m' g')
  obtain ⟨a0, a1, a2, a3, a4, a5, a6, a7, a8, -⟩ := hagree c
  refine (ReferenceIdeal.Read.val_main_v41_eq m' c).trans ?_
  rw [a0, a1, a2, a3, a4, a5, a6, a7, a8]
  exact results m g hpre c

/-- THE CERTIFICATE. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  quiescent_reference,
  fun m ρ _ => quiescent_reference m ρ trivial,
  IdealRules.named_const.statement Cert.KernelIdeal.κ "scale_log2e" .f32 0x3E0293EE#32 (((Real.sqrt 128)⁻¹ * (Real.log 2)⁻¹ : ℝ) : EReal) rfl,
  algebraic⟩

end Cert.Proof

end
